-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S500000x64 : Shape := ⟨2, ![500000, 64]⟩
abbrev S500000 : Shape := ⟨1, ![500000]⟩
abbrev S19x32 : Shape := ⟨2, ![19, 32]⟩
abbrev S120 : Shape := ⟨1, ![120]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S120 : S_.BroadcastsInDim S120 (![] : Fin 0 → Fin S120.rank)
  reducesTo_S120_S_d0 : S120.ReducesTo [0] S_

variable [Facts]

def fn {F : FTy → Type} [FloatOps F] (main_arg0 : FVec F S500000x64 .f32) (main_arg1 : IVec S500000 32) (main_arg2 : FVec F S19x32 .f32) (main_arg3 : IVec S120 32) : IVec S_ 1 :=
  let main_c : IVec S_ 32 := constantI S_ 32 0#32
  let main_v0 : IVec S500000 32 := broadcastInDim S500000 ![] bcast_S_S500000 main_c
  let main_v1 : IVec S500000 1 := cmpi .sge main_arg1 main_v0
  let main_c_0 : IVec S_ 32 := constantI S_ 32 120#32
  let main_v2 : IVec S500000 32 := broadcastInDim S500000 ![] bcast_S_S500000 main_c_0
  let main_v3 : IVec S500000 1 := cmpi .slt main_arg1 main_v2
  let main_v4 : IVec S500000 1 := andi main_v1 main_v3
  let main_c_1 : IVec S_ 1 := constantI S_ 1 1#1
  let main_v5 : IVec S_ 1 := (fun x v => Host.reduce IntOp.andi x v reducesTo_S500000_S_d0 h_S_) main_v4 main_c_1
  let main_c_2 : IVec S_ 32 := constantI S_ 32 0#32
  let main_v6 : IVec S120 32 := broadcastInDim S120 ![] bcast_S_S120 main_c_2
  let main_v7 : IVec S120 1 := cmpi .sge main_arg3 main_v6
  let main_c_3 : IVec S_ 32 := constantI S_ 32 19#32
  let main_v8 : IVec S120 32 := broadcastInDim S120 ![] bcast_S_S120 main_c_3
  let main_v9 : IVec S120 1 := cmpi .slt main_arg3 main_v8
  let main_v10 : IVec S120 1 := andi main_v7 main_v9
  let main_c_4 : IVec S_ 1 := constantI S_ 1 1#1
  let main_v11 : IVec S_ 1 := (fun x v => Host.reduce IntOp.andi x v reducesTo_S120_S_d0 h_S_) main_v10 main_c_4
  let main_v12 : IVec S_ 1 := andi main_v5 main_v11
  main_v12
-- ==== Kernel.lean ====
abbrev S500000x64 : Shape := ⟨2, ![500000, 64]⟩
abbrev S500000 : Shape := ⟨1, ![500000]⟩
abbrev S19x32 : Shape := ⟨2, ![19, 32]⟩
abbrev S120 : Shape := ⟨1, ![120]⟩
abbrev S64x500000 : Shape := ⟨2, ![64, 500000]⟩
abbrev S32x19 : Shape := ⟨2, ![32, 19]⟩
abbrev S1x120 : Shape := ⟨2, ![1, 120]⟩
abbrev S96x500000 : Shape := ⟨2, ![96, 500000]⟩
abbrev S36864 : Shape := ⟨1, ![36864]⟩
abbrev S64x36864 : Shape := ⟨2, ![64, 36864]⟩
abbrev S96x36864 : Shape := ⟨2, ![96, 36864]⟩
abbrev S1x36864 : Shape := ⟨2, ![1, 36864]⟩
abbrev S19x120 : Shape := ⟨2, ![19, 120]⟩
abbrev S32x120 : Shape := ⟨2, ![32, 120]⟩
abbrev S120x6144 : Shape := ⟨2, ![120, 6144]⟩
abbrev S1x6144 : Shape := ⟨2, ![1, 6144]⟩
abbrev S32x6144 : Shape := ⟨2, ![32, 6144]⟩
abbrev S500000x96 : Shape := ⟨2, ![500000, 96]⟩

abbrev nBuf : Space → Nat
  | .hbm => 9
  | .vmem => 8
  | .smem => 0
  | _ => 0

abbrev bufTy : (tb : Table) → Fin (tcTables nBuf tb) → BufTy
  | .hbm, ⟨0, _⟩ => ⟨S500000x64, .f32⟩
  | .hbm, ⟨1, _⟩ => ⟨S500000, .i32⟩
  | .hbm, ⟨2, _⟩ => ⟨S19x32, .f32⟩
  | .hbm, ⟨3, _⟩ => ⟨S120, .i32⟩
  | .hbm, ⟨4, _⟩ => ⟨S64x500000, .f32⟩
  | .hbm, ⟨5, _⟩ => ⟨S32x19, .f32⟩
  | .hbm, ⟨6, _⟩ => ⟨S1x120, .i32⟩
  | .hbm, ⟨7, _⟩ => ⟨S96x500000, .f32⟩
  | .hbm, ⟨8, _⟩ => ⟨S500000x96, .f32⟩
  | .local _ .vmem, ⟨0, _⟩ => ⟨S36864, .i32⟩
  | .local _ .vmem, ⟨1, _⟩ => ⟨S36864, .i32⟩
  | .local _ .vmem, ⟨2, _⟩ => ⟨S1x120, .i32⟩
  | .local _ .vmem, ⟨3, _⟩ => ⟨S64x36864, .f32⟩
  | .local _ .vmem, ⟨4, _⟩ => ⟨S64x36864, .f32⟩
  | .local _ .vmem, ⟨5, _⟩ => ⟨S32x19, .f32⟩
  | .local _ .vmem, ⟨6, _⟩ => ⟨S96x36864, .f32⟩
  | .local _ .vmem, ⟨7, _⟩ => ⟨S96x36864, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S36864 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x120 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x36864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x19 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x36864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S500000x64 : Shape := ⟨2, ![500000, 64]⟩
abbrev S500000 : Shape := ⟨1, ![500000]⟩
abbrev S19x32 : Shape := ⟨2, ![19, 32]⟩
abbrev S120 : Shape := ⟨1, ![120]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x32 : Shape := ⟨2, ![500000, 32]⟩
abbrev S500000x96 : Shape := ⟨2, ![500000, 96]⟩

abbrev nBuf : Space → Nat
  | .hbm => 50
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000, .i32⟩
  | .hbm, ⟨2, _⟩ => ⟨S19x32, .f32⟩
  | .hbm, ⟨3, _⟩ => ⟨S120, .i32⟩
  | .hbm, ⟨4, _⟩ => ⟨S_, .i32⟩
  | .hbm, ⟨5, _⟩ => ⟨S500000, .i32⟩
  | .hbm, ⟨6, _⟩ => ⟨S500000, .i1⟩
  | .hbm, ⟨7, _⟩ => ⟨S_, .i32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S500000x1, .i32⟩
  | .hbm, ⟨12, _⟩ => ⟨S1, .i32⟩
  | .hbm, ⟨13, _⟩ => ⟨S_, .i32⟩
  | .hbm, ⟨14, _⟩ => ⟨S500000x1, .i32⟩
  | .hbm, ⟨15, _⟩ => ⟨S500000x1, .i1⟩
  | .hbm, ⟨16, _⟩ => ⟨S1x1, .i32⟩
  | .hbm, ⟨17, _⟩ => ⟨S500000x1, .i32⟩
  | .hbm, ⟨18, _⟩ => ⟨S500000x1, .i1⟩
  | .hbm, ⟨19, _⟩ => ⟨S500000x1, .i1⟩
  | .hbm, ⟨20, _⟩ => ⟨S_, .i1⟩
  | .hbm, ⟨21, _⟩ => ⟨S500000, .i1⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S1, .i32⟩
  | .hbm, ⟨35, _⟩ => ⟨S_, .i32⟩
  | .hbm, ⟨36, _⟩ => ⟨S500000x1, .i32⟩
  | .hbm, ⟨37, _⟩ => ⟨S500000x1, .i1⟩
  | .hbm, ⟨38, _⟩ => ⟨S1x1, .i32⟩
  | .hbm, ⟨39, _⟩ => ⟨S500000x1, .i32⟩
  | .hbm, ⟨40, _⟩ => ⟨S500000x1, .i1⟩
  | .hbm, ⟨41, _⟩ => ⟨S500000x1, .i1⟩
  | .hbm, ⟨42, _⟩ => ⟨S_, .i1⟩
  | .hbm, ⟨43, _⟩ => ⟨S500000, .i1⟩
  | .hbm, ⟨44, _⟩ => ⟨S500000x32, .f32⟩
  | .hbm, ⟨45, _⟩ => ⟨S500000x32, .i1⟩
  | .hbm, ⟨46, _⟩ => ⟨S_, .f32⟩
  | .hbm, ⟨47, _⟩ => ⟨S500000x32, .f32⟩
  | .hbm, ⟨48, _⟩ => ⟨S500000x32, .f32⟩
  | .hbm, ⟨49, _⟩ => ⟨S500000x96, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]
-- ==== Proof.FrameBits.lean ====
module

public import proofs.«01_k».proof.Proof.Gen.Kernel.Frame
public import proofs.«01_k».proof.Proof.Gen.Kernel.Points
public import proofs.«01_k».proof.Proof.Gen.Kernel.Skeleton
public import Idealize.ShloMosaic.Lib.Tactic
public import Idealize.ShloMosaic.Lib.VecWindow

/-!
# The kernel on words ends, and leaves its arguments alone

For the frame claim on the unchanged kernel nothing is said of what the grid computes: a grid step may leave anything in its
output block. It is enough that the step gives its four inputs back, that the fetched blocks come from the arrays, and that
the one operation after the grid writes no argument.
-/

@[expose] public section

set_option maxRecDepth 16384

noncomputable section

namespace Cert.RowsBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The kernel has no variants. -/
abbrev 𝒱₀ : Variants := Variants.none

/-- One grid step, at any number format: it gives its four inputs back as it found them and leaves something in the output
block. -/
theorem body_any (c : Dev nD) (E : Set ℕ) (i : grid0.Coords)
    (z : Memref sig .tc .vmem S36864 .i32) (hz : z.IsWhole) (g : Memref sig .tc .vmem S1x120 .i32) (hg : g.IsWhole)
    (p : Memref sig .tc .vmem S64x36864 .f32) (hp : p.IsWhole) (t : Memref sig .tc .vmem S32x19 .f32) (ht : t.IsWhole)
    (o : Memref sig .tc .vmem S96x36864 .f32) (ho : o.IsWhole)
    (Z : S36864.Idx → Elt F .i32) (G : S1x120.Idx → Elt F .i32) (X : S64x36864.Idx → Elt F .f32) (T : S32x19.Idx → Elt F .f32)
    (Y : S96x36864.Idx → Elt F .f32) (K : PUnit → sProp 𝕄) :
    iprop((owns (c : Thread nD τ) z fullShare Z ∗ owns (c : Thread nD τ) g fullShare G ∗ owns (c : Thread nD τ) p fullShare X
            ∗ owns (c : Thread nD τ) t fullShare T ∗ owns (c : Thread nD τ) o fullShare Y)
          ∗ (iprop(owns (c : Thread nD τ) z fullShare Z ∗ owns (c : Thread nD τ) g fullShare G ∗ owns (c : Thread nD τ) p fullShare X
            ∗ owns (c : Thread nD τ) t fullShare T
            ∗ (∃ W : S96x36864.Idx → Elt F .f32, owns (c : Thread nD τ) o fullShare W)) -∗ K ⟨⟩))
      ⊢ wp frame (wpE (defs₀ (F := F)) 𝒱₀ c none) E (cc0__body i z hz g hg p hp t ht o ho) K := by
  unfold owns
  iintro ⟨⟨⟨%f1, %h1, H1⟩, ⟨%f2, %h2, H2⟩, ⟨%f3, %h3, H3⟩, ⟨%f4, %h4, H4⟩, ⟨%f5, %h5, H5⟩⟩, Hk⟩
  rw [cc0__body_eq_skeleton]; unfold cc0__body_skel
  sl_exec
  sl_step
  iapply Hk
  isplitl [H1]
  · iexists f1; isplitr; · (ipureintro; exact h1)
    iexact H1
  isplitl [H2]
  · iexists f2; isplitr; · (ipureintro; exact h2)
    iexact H2
  isplitl [H3]
  · iexists f3; isplitr; · (ipureintro; exact h3)
    iexact H3
  isplitl [H4]
  · iexists f4; isplitr; · (ipureintro; exact h4)
    iexact H4
  iexists _, _; isplitr; swap; · iexact H5
  ipureintro; rfl

variable (m : (ℓ : Loc nD τ sig) → Buf (Elt F) ℓ) (ρ : Dev nD → PrngReg)

/-- The proof data: each input buffer holds its block; the last line, for the output, is never used. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => (0#32 : BitVec 32)) (iblk m c 0 t)
    | ⟨1, _⟩ => iblk m c 1 t
    | ⟨2, _⟩ => win0_2.fill (grid0.coords t) (fun _ => FloatOps.ofBits .f32 0#32) (iblk m c 2 t)
    | ⟨3, _⟩ => iblk m c 3 t
    | ⟨4, _⟩ => fun _ => FloatOps.ofBits .f32 0#32
  Φ _ := Pipeline.ΦA spec0 c
  q _ := fullShare
  owed _ := 0

/-- Of the five windows the output's contents are left open. -/
abbrev anyOut : Fin 5 → Bool := ![false, false, false, false, true]

/-- The atomic numbers, whose last block is clipped, are fetched at every point: their buffer holds the block inside the
array and anything past it. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl
/-- The same for the features. -/
theorem before_2 (c : Dev nD) (t : Fin cfg0.N) (d) :
    (dats m 0 c).before (2 : Fin 5) t d = win0_2.fill (grid0.coords t) d (iblk m c 2 t) := by
  unfold Dat.before; rw [if_pos (fetch0_2 t)]; rfl

/-- The library's body obligation with the output's contents left open. -/
theorem body_obligation (c : Dev nD) : BodyObligationLoose (dats m 0 c) (defs₀ (F := F)) 𝒱₀ () Set.univ anyOut := fun t => by
  rw [bigSep_W0, bigSep_W0]
  simp only [anyOut, Matrix.cons_val]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%Y, H4⟩⟩
  rw [before_0 m c t d0, before0_1_of m (dats m 0 c) rfl (fun _ => rfl) t d1, before_2 m c t d2,
    before0_3_of m (dats m 0 c) rfl (fun _ => rfl) t d3]
  iapply (body_any c Set.univ (grid0.coords t) (st0_0 t) (hstage0_0 _) (st0_1 t) (hstage0_1 _)
    (st0_2 t) (hstage0_2 _) (st0_3 t) (hstage0_3 _) (st0_4 t) (hstage0_4 _)
    (win0_0.fill (grid0.coords t) d0 (iblk m c 0 t)) (iblk m c 1 t) (win0_2.fill (grid0.coords t) d2 (iblk m c 2 t))
    (iblk m c 3 t) Y _)
  isplitl [H0 H1 H2 H3 H4]
  · isplitl [H0]; · iexact H0
    isplitl [H1]; · iexact H1
    isplitl [H2]; · iexact H2
    isplitl [H3]; · iexact H3
    iexact H4
  iintro ⟨H0, H1, H2, H3, ⟨%W, H4⟩⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t)
      (win0_0.fill (grid0.coords t) (fun _ => (0#32 : BitVec 32)) (iblk m c 0 t))))
    rw [win0_0.cut_fill]
  isplitl [H1]; · iexact H1
  isplitl [H2]
  · iexists d2
    change _ ⊢ owns (c : Thread nD τ) (st0_2 t) fullShare (win0_2.fill (grid0.coords t) d2 (win0_2.cut (grid0.coords t)
      (win0_2.fill (grid0.coords t) (fun _ => FloatOps.ofBits .f32 0#32) (iblk m c 2 t))))
    rw [win0_2.cut_fill]
  isplitl [H3]; · iexact H3
  iexists W; iexact H4

/-- The operation after the grid writes the kernel's result only. -/
theorem tail_writes : ∀ ops ∈ [hostOps1 (F := F)], ∀ op ∈ ops, ∀ b : Ref sig .tc, Proc.devRef .tc b ∈ op.writes →
    b ∈ ({main_v4} : Finset (Ref sig .tc)) := by
  intro ops hops op hop b hb
  simp only [List.mem_singleton] at hops
  subst hops
  simp only [hostOps1, List.mem_singleton] at hop
  subst hop
  have hb' : Proc.devRef .tc b ∈ ({Proc.devRef .tc main_v4} : Finset _) := hb
  rw [Finset.mem_singleton] at hb' ⊢
  exact Proc.devRef_injective _ hb'

set_option backward.isDefEq.respectTransparency.types false in
/-- Every run ends with the four arguments as they were and every counter at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (dats m) 0 launch0 defs₀ 𝒱₀ anyOut {main_v4} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hΦ := fun _ _ => rfl) (Q' := _)
    (hQ' := fun r h => ⟨fun c =>
      ⟨(((h.1 c).2 main_arg0 (by decide))).trans (V_main_arg0 m c),
        (h.1.arr_in c 0 rfl).trans (V_main_arg1 m c),
        (((h.1 c).2 main_arg2 (by decide))).trans (V_main_arg2 m c),
        (((h.1 c).2 main_arg3 (by decide))).trans (V_main_arg3 m c)⟩, h.2⟩)

end Cert.RowsBits

end
-- ==== Proof.Body.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Tactic
public import Idealize.ShloMosaic.Lib.VecWindow

/-!
# One grid step

The body of the kernel, run on five buffers: it loads its four inputs whole and stores seven pieces into the output block.
-/

@[expose] public section

set_option maxRecDepth 16384

noncomputable section

namespace Cert.Rows

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel has no variants. -/
abbrev 𝒱₀ : Variants := Variants.none

/-- What one grid step stores into its output block, the last store first: six pieces of the embedding rows, each of 6144
columns, over the copy of the block of features. -/
def stores (Z : S36864.Idx → Elt F .i32) (G : S1x120.Idx → Elt F .i32) (X : S64x36864.Idx → Elt F .f32)
    (T : S32x19.Idx → Elt F .f32) : List (View.Piece (Elt F) S96x36864 .f32) :=
  [⟨Rect.unit ![64, 30720] S32x6144.size inb_S96x36864_S32x6144_64_30720,
      k0_pay3 (k0_pay5 Z) (k0_pay6 G T) (iota .tc S120x6144 32 [0] iota_S120x6144_d0_w32)⟩,
   ⟨Rect.unit ![64, 24576] S32x6144.size inb_S96x36864_S32x6144_64_24576,
      k0_pay2 (k0_pay5 Z) (k0_pay6 G T) (iota .tc S120x6144 32 [0] iota_S120x6144_d0_w32)⟩,
   ⟨Rect.unit ![64, 18432] S32x6144.size inb_S96x36864_S32x6144_64_18432,
      k0_pay1 (k0_pay5 Z) (k0_pay6 G T) (iota .tc S120x6144 32 [0] iota_S120x6144_d0_w32)⟩,
   ⟨Rect.unit ![64, 12288] S32x6144.size inb_S96x36864_S32x6144_64_12288, k0_pay9 Z G T⟩,
   ⟨Rect.unit ![64, 6144] S32x6144.size inb_S96x36864_S32x6144_64_6144, k0_pay8 Z G T⟩,
   ⟨Rect.unit ![64, 0] S32x6144.size inb_S96x36864_S32x6144_64_0, k0_pay7 Z G T⟩,
   ⟨Rect.unit ![0, 0] S64x36864.size inb_S96x36864_S64x36864_0_0, k0_pay4 X⟩]

/-- One grid step gives its four inputs back as it found them and leaves in the output block the seven stores laid over
whatever was there. -/
theorem body_run (c : Dev nD) (E : Set ℕ) (i : grid0.Coords)
    (z : Memref sig .tc .vmem S36864 .i32) (hz : z.IsWhole) (g : Memref sig .tc .vmem S1x120 .i32) (hg : g.IsWhole)
    (p : Memref sig .tc .vmem S64x36864 .f32) (hp : p.IsWhole) (t : Memref sig .tc .vmem S32x19 .f32) (ht : t.IsWhole)
    (o : Memref sig .tc .vmem S96x36864 .f32) (ho : o.IsWhole)
    (Z : S36864.Idx → Elt F .i32) (G : S1x120.Idx → Elt F .i32) (X : S64x36864.Idx → Elt F .f32) (T : S32x19.Idx → Elt F .f32)
    (Y : S96x36864.Idx → Elt F .f32) (K : PUnit → sProp 𝕄) :
    iprop((owns (c : Thread nD τ) z fullShare Z ∗ owns (c : Thread nD τ) g fullShare G ∗ owns (c : Thread nD τ) p fullShare X
            ∗ owns (c : Thread nD τ) t fullShare T ∗ owns (c : Thread nD τ) o fullShare Y)
          ∗ (iprop(owns (c : Thread nD τ) z fullShare Z ∗ owns (c : Thread nD τ) g fullShare G ∗ owns (c : Thread nD τ) p fullShare X
            ∗ owns (c : Thread nD τ) t fullShare T ∗ (∃ f, owns (c : Thread nD τ) o fullShare
              (o.view.read (Elt F) (o.view.writes (Elt F) f (stores Z G X T))))) -∗ K ⟨⟩))
      ⊢ wp frame (wpE (defs₀ (F := F)) 𝒱₀ c none) E (cc0__body i z hz g hg p hp t ht o ho) K := by
  unfold owns
  iintro ⟨⟨⟨%f1, %h1, H1⟩, ⟨%f2, %h2, H2⟩, ⟨%f3, %h3, H3⟩, ⟨%f4, %h4, H4⟩, ⟨%f5, %h5, H5⟩⟩, Hk⟩
  rw [cc0__body_eq_skeleton]; unfold cc0__body_skel
  sl_exec
  sl_step
  iapply Hk
  sl_unfold_words
  rw [View.readAt_full, View.readAt_full, View.readAt_full, View.readAt_full, h1, h2, h3, h4]
  isplitl [H1]
  · iexists f1; isplitr; · (ipureintro; exact h1)
    iexact H1
  isplitl [H2]
  · iexists f2; isplitr; · (ipureintro; exact h2)
    iexact H2
  isplitl [H3]
  · iexists f3; isplitr; · (ipureintro; exact h3)
    iexact H3
  isplitl [H4]
  · iexists f4; isplitr; · (ipureintro; exact h4)
    iexact H4
  iexists f5, _; isplitr; · (ipureintro; rfl)
  iexact H5

end Cert.Rows

end
-- ==== Proof.Block.lean ====
module

public import proofs.«01_k».proof.Proof.Body
public import Idealize.ShloMosaic.Lib.Pointwise

/-!
# The block one grid step leaves, in closed form

Rows 0 to 63 are the block of features. Row `64 + r` holds, at column `l`, the table's channel `r` summed against two
indicators: which group an atomic number belongs to, and which atomic number the column's atom has.
-/

@[expose] public section

set_option maxRecDepth 16384

noncomputable section

namespace Cert.Rows

open Cert.KernelIdeal Cert.KernelIdeal.Gen
open Idealize.ShloMosaic Idealize.ShloMosaic.TcCoe

/-- The indicator of "the word `w` is the number `k`", as a real. -/
def ind (w : BitVec 32) (k : ℕ) : EReal :=
  FloatOps.sitofp (F := Ideal) .f32 (BitVec.setWidth 32 (IntOp.cmpi .eq w (BitVec.ofNat 32 k)))

/-- Channel `r` of the embedding of the atomic number `w`, as sums against indicators: over the atomic numbers `a`, the
table's row for the group of `a`, itself a sum over the groups. -/
def pick (G : Fin 120 → BitVec 32) (T : Fin 32 → Fin 19 → EReal) (w : BitVec 32) (r : Fin 32) : EReal :=
  ∑ a : Fin 120, (∑ k : Fin 19, T r k * ind (G a) k) * ind w a

section Block

variable (Z : S36864.Idx → Elt Ideal .i32) (G : S1x120.Idx → Elt Ideal .i32) (X : S64x36864.Idx → Elt Ideal .f32)
  (T : S32x19.Idx → Elt Ideal .f32)

/-- The block in closed form, at row `i` and column `n`. -/
def blockAt (i : Fin 96) (n : Fin 36864) : EReal :=
  if h : i.val < 64 then X (ix2 ⟨i.val, h⟩ n)
  else pick (fun a => G (ix2 0 a)) (fun r k => T (ix2 r k)) (Z (ix1 n)) ⟨i.val - 64, by omega⟩

/-- A stored piece of the embedding rows that starts at column `o` holds, at its row `r` and column `l`, the embedding of
the atom in column `o + l`. -/
def IsPiece (o : ℕ) (w : S32x6144.Idx → Elt Ideal .f32) : Prop :=
  ∀ (r : Fin 32) (l : Fin 6144) (h : o + l.val < 36864),
    w (ix2 r l) = pick (fun a => G (ix2 0 a)) (fun r k => T (ix2 r k)) (Z (ix1 ⟨o + l.val, h⟩)) r

/-- Every one of the six pieces holds the embeddings of its own columns. -/
theorem pieces :
    IsPiece Z G T 0 (k0_pay7 Z G T) ∧ IsPiece Z G T 6144 (k0_pay8 Z G T) ∧ IsPiece Z G T 12288 (k0_pay9 Z G T)
      ∧ IsPiece Z G T 18432 (k0_pay1 (k0_pay5 Z) (k0_pay6 G T) (iota .tc S120x6144 32 [0] iota_S120x6144_d0_w32))
      ∧ IsPiece Z G T 24576 (k0_pay2 (k0_pay5 Z) (k0_pay6 G T) (iota .tc S120x6144 32 [0] iota_S120x6144_d0_w32))
      ∧ IsPiece Z G T 30720 (k0_pay3 (k0_pay5 Z) (k0_pay6 G T) (iota .tc S120x6144 32 [0] iota_S120x6144_d0_w32)) := by
  refine ⟨?_, ?_, ?_, ?_, ?_, ?_⟩ <;> intro r l h <;>
    pointwise [k0_pay1, k0_pay2, k0_pay3, k0_pay5, k0_pay6, k0_pay7, k0_pay8, k0_pay9] <;> rfl

/-- Stores read back: under a stored piece of the embedding rows the block has its closed form, provided that the earlier
stores give the closed form everywhere else. -/
theorem read_piece (v : View sig .tc .vmem S96x36864 .f32) (f : v.ty.Contents (Elt Ideal)) (o : ℕ)
    (inb : ∀ a, (![64, o] : Fin 2 → ℕ) a + S32x6144.size a ≤ S96x36864.size a)
    (w : S32x6144.Idx → Elt Ideal .f32) (hw : IsPiece Z G T o w) (L : List (View.Piece (Elt Ideal) S96x36864 .f32))
    (i : Fin 96) (n : Fin 36864)
    (hL : ¬(64 ≤ i.val ∧ o ≤ n.val ∧ n.val < o + 6144) →
      v.read (Elt Ideal) (v.writes (Elt Ideal) f L) (ix2 i n) = blockAt Z G X T i n) :
    v.read (Elt Ideal) (v.writes (Elt Ideal) f (⟨Rect.unit ![64, o] S32x6144.size inb, w⟩ :: L)) (ix2 i n)
      = blockAt Z G X T i n := by
  by_cases hin : 64 ≤ i.val ∧ o ≤ n.val ∧ n.val < o + 6144
  · obtain ⟨hi, ho, hn⟩ := hin
    rw [View.read_writes_cons_unit_of_mem v f inb w L (ix2 i n) (ix2 ⟨i.val - 64, by omega⟩ ⟨n.val - o, by omega⟩) rfl
      (Fin.forall_fin_two.mpr ⟨(Nat.add_sub_of_le hi).symm, (Nat.add_sub_of_le ho).symm⟩),
      hw _ _ (by show o + (n.val - o) < 36864; omega), blockAt, dif_neg (by omega)]
    exact congrArg (fun x => pick _ _ (Z (ix1 x)) _) (Fin.ext (Nat.add_sub_of_le ho))
  · rw [← hL hin]
    by_cases hi : 64 ≤ i.val
    · exact View.read_writes_cons_unit_of_not_mem v f inb w L (ix2 i n) rfl 1
        (by show n.val < o ∨ o + 6144 ≤ n.val; omega)
    · exact View.read_writes_cons_unit_of_not_mem v f inb w L (ix2 i n) rfl 0
        (by show i.val < 64 ∨ 64 + 32 ≤ i.val; omega)

/-- What the seven stores of one grid step leave, read back over any earlier contents. -/
theorem read_stores (v : View sig .tc .vmem S96x36864 .f32) (f : v.ty.Contents (Elt Ideal)) (i : Fin 96) (n : Fin 36864) :
    v.read (Elt Ideal) (v.writes (Elt Ideal) f (stores Z G X T)) (ix2 i n) = blockAt Z G X T i n := by
  obtain ⟨h0, h1, h2, h3, h4, h5⟩ := pieces Z G T
  unfold stores
  refine read_piece Z G X T v f _ _ _ h5 _ i n fun n5 => ?_
  refine read_piece Z G X T v f _ _ _ h4 _ i n fun n4 => ?_
  refine read_piece Z G X T v f _ _ _ h3 _ i n fun n3 => ?_
  refine read_piece Z G X T v f _ _ _ h2 _ i n fun n2 => ?_
  refine read_piece Z G X T v f _ _ _ h1 _ i n fun n1 => ?_
  refine read_piece Z G X T v f _ _ _ h0 _ i n fun n0 => ?_
  have hi : i.val < 64 := by have := n.isLt; omega
  rw [View.read_writes_cons_unit_of_mem v f inb_S96x36864_S64x36864_0_0 _ _ (ix2 i n) (ix2 ⟨i.val, hi⟩ n) rfl
    (Fin.forall_fin_two.mpr ⟨(Nat.zero_add _).symm, (Nat.zero_add _).symm⟩), blockAt, dif_pos hi]
  pointwise [k0_pay4]

end Block

end Cert.Rows

end
-- ==== Proof.Arrays.lean ====
module

public import proofs.«01_k».proof.Proof.Block
public import Idealize.ShloMosaic.Lib.Pipeline.ValueKit

/-!
# The arrays of the kernel and their blocks

The grid has 14 points, and point `t` works on the columns from `36864 * t` on. The last point has 20768 columns inside the
arrays; what its buffers hold past those columns is left open. The kernel's result array is stated once, whole, and the
block of every point is compared with it.
-/

@[expose] public section

set_option maxRecDepth 16384

noncomputable section

namespace Cert.Rows

open Cert.KernelIdeal Cert.KernelIdeal.Gen
open Idealize.ShloMosaic Idealize.ShloMosaic.TcCoe
open Idealize.ShloMosaic.Pipeline (Window)

variable (m : (ℓ : Loc nD τ sig) → Buf (Elt Ideal) ℓ)

/-- The four arrays that the grid reads, at their contents when the grid starts: the atomic numbers, -/
def numbers (c : Dev nD) : S500000.Idx → BitVec 32 := V m c main_arg1
/-- the groups as one row, -/
def groups (c : Dev nD) : S1x120.Idx → BitVec 32 := V m c main_v2
/-- the features with atoms along the columns, -/
def features (c : Dev nD) : S64x500000.Idx → EReal := V m c main_v0
/-- and the table with groups along the columns. -/
def tableT (c : Dev nD) : S32x19.Idx → EReal := V m c main_v1

/-- The kernel's result array: the features above, the embedding of each column's atom below. -/
def outAt (c : Dev nD) (i : Fin 96) (n : Fin 500000) : EReal :=
  if h : i.val < 64 then features m c (ix2 ⟨i.val, h⟩ n)
  else pick (fun a => groups m c (ix2 0 a)) (fun r k => tableT m c (ix2 r k)) (numbers m c (ix1 n)) ⟨i.val - 64, by omega⟩

/-- The same as the contents of the array. -/
def outArr (c : Dev nD) : Buf (Elt Ideal) ((c : Thread nD τ).loc main_v3) :=
  (fun j => outAt m c (j 0) (j 1) : S96x500000.Idx → EReal)

/-- Where the windows' blocks lie: point `t` takes the `t`-th block along the atoms, and the groups and the table whole. -/
theorem idx : ∀ t : Fin cfg0.N, win0_0.index t = ![t.val] ∧ win0_1.index t = ![0, 0] ∧ win0_2.index t = ![0, t.val]
    ∧ win0_3.index t = ![0, 0] ∧ win0_4.index t = ![0, t.val] :=
  (by decide +kernel : ∀ t : Fin grid0.N, _)

/-- How much of a block lies inside the arrays. -/
theorem inside : ∀ t : Fin cfg0.N, win0_0.xsize (grid0.coords t) 0 = min 36864 (500000 - t.val * 36864)
    ∧ win0_2.xsize (grid0.coords t) 0 = 64 ∧ win0_2.xsize (grid0.coords t) 1 = min 36864 (500000 - t.val * 36864)
    ∧ win0_4.xsize (grid0.coords t) 0 = 96 ∧ win0_4.xsize (grid0.coords t) 1 = min 36864 (500000 - t.val * 36864) :=
  (by decide +kernel : ∀ t : Fin grid0.N, _)

/-- A column of the buffer of atomic numbers, inside the array, is a column of the array. -/
theorem numbers_block (c : Dev nD) (t : Fin cfg0.N) (d : S36864.Idx → Elt Ideal .i32) (n : Fin 36864)
    (h : t.val * 36864 + n.val < 500000) :
    win0_0.fill (grid0.coords t) d (iblk m c 0 t) (ix1 n) = numbers m c (ix1 ⟨t.val * 36864 + n.val, h⟩) := by
  obtain ⟨hx, -⟩ := inside t
  have hn : n.val < win0_0.xsize (grid0.coords t) 0 := by rw [hx]; have := n.isLt; omega
  rw [show (ix1 n : S36864.Idx) = win0_0.xinj (grid0.coords t) (fun a => ⟨n.val, by fin_cases a; exact hn⟩) from by
    funext a; fin_cases a; rfl, Window.fill_xinj]
  unfold numbers
  blk_simp [iblk]
  blk_ext [idx t]

/-- The same for the buffer of features, at any of its rows. -/
theorem features_block (c : Dev nD) (t : Fin cfg0.N) (d : S64x36864.Idx → Elt Ideal .f32) (r : Fin 64) (n : Fin 36864)
    (h : t.val * 36864 + n.val < 500000) :
    win0_2.fill (grid0.coords t) d (iblk m c 2 t) (ix2 r n) = features m c (ix2 r ⟨t.val * 36864 + n.val, h⟩) := by
  obtain ⟨-, hr, hx, -⟩ := inside t
  have hn : n.val < win0_2.xsize (grid0.coords t) 1 := by rw [hx]; have := n.isLt; omega
  have hr' : r.val < win0_2.xsize (grid0.coords t) 0 := by rw [hr]; exact r.isLt
  rw [show (ix2 r n : S64x36864.Idx) = win0_2.xinj (grid0.coords t)
      (fun a => ⟨(ix2 r n a).val, by fin_cases a; exacts [hr', hn]⟩) from by
    funext a; fin_cases a <;> rfl, Window.fill_xinj]
  unfold features
  blk_simp [iblk]
  blk_ext [idx t]

/-- The groups' buffer holds all the groups. -/
theorem groups_block (c : Dev nD) (t : Fin cfg0.N) (a : Fin 120) : iblk m c 1 t (ix2 0 a) = groups m c (ix2 0 a) := by
  unfold groups
  blk_ext [iblk, idx t]

/-- The table's buffer holds the table. -/
theorem table_block (c : Dev nD) (t : Fin cfg0.N) (r : Fin 32) (k : Fin 19) : iblk m c 3 t (ix2 r k) = tableT m c (ix2 r k) := by
  unfold tableT
  blk_ext [iblk, idx t]

/-- The block computed from the buffers of point `t` is, at a column inside the array, the result array's column. -/
theorem block_column (c : Dev nD) (t : Fin cfg0.N) (d0 : S36864.Idx → Elt Ideal .i32) (d2 : S64x36864.Idx → Elt Ideal .f32)
    (i : Fin 96) (n : Fin 36864) (h : t.val * 36864 + n.val < 500000) :
    blockAt (win0_0.fill (grid0.coords t) d0 (iblk m c 0 t)) (iblk m c 1 t) (win0_2.fill (grid0.coords t) d2 (iblk m c 2 t))
      (iblk m c 3 t) i n = outAt m c i ⟨t.val * 36864 + n.val, h⟩ := by
  unfold blockAt outAt
  by_cases hi : i.val < 64
  · rw [dif_pos hi, dif_pos hi]
    exact features_block m c t d2 _ n h
  · rw [dif_neg hi, dif_neg hi, numbers_block m c t d0 n h]
    simp only [groups_block, table_block]

/-- On the columns inside the array, a buffer that holds the computed block holds the result array's block. -/
theorem cut_block (c : Dev nD) (t : Fin cfg0.N) (d0 : S36864.Idx → Elt Ideal .i32) (d2 : S64x36864.Idx → Elt Ideal .f32)
    (Y : S96x36864.Idx → Elt Ideal .f32)
    (hY : ∀ i n, Y (ix2 i n) = blockAt (win0_0.fill (grid0.coords t) d0 (iblk m c 0 t)) (iblk m c 1 t)
      (win0_2.fill (grid0.coords t) d2 (iblk m c 2 t)) (iblk m c 3 t) i n) :
    win0_4.cut (grid0.coords t) Y = (win0_4.blk t).view.read (Elt Ideal) (outArr m c) := by
  funext y
  obtain ⟨-, -, -, hi, hn⟩ := inside t
  have y0 : (y 0).val < 96 := hi ▸ (y 0).isLt
  have y1 : (y 1).val < min 36864 (500000 - t.val * 36864) := hn ▸ (y 1).isLt
  have h : t.val * 36864 + (y 1).val < 500000 := by omega
  have e : (win0_4.blk t).view.emb y = (ix2 ⟨(y 0).val, y0⟩ ⟨t.val * 36864 + (y 1).val, h⟩ : S96x500000.Idx) := by
    blk_ext [idx t]
  have e' : win0_4.xinj (grid0.coords t) y = (ix2 ⟨(y 0).val, y0⟩ ⟨(y 1).val, by omega⟩ : S96x36864.Idx) := by
    funext a; fin_cases a <;> rfl
  show Y (win0_4.xinj (grid0.coords t) y) = outArr m c ((win0_4.blk t).view.emb y)
  rw [e, e', hY]
  exact block_column m c t d0 d2 _ _ h

end Cert.Rows

end
-- ==== Proof.Run.lean ====
module

public import proofs.«01_k».proof.Proof.Arrays

/-!
# The run of the kernel over the reals

What the buffers of every grid point hold, that the body keeps to it, and the run of the whole program from that.
-/

@[expose] public section

set_option maxRecDepth 16384

noncomputable section

namespace Cert.Rows

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The proof data: after the body at point `t` each input buffer holds its block, and the output buffer its block of the
result array, each on the columns inside the array. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0#32 : BitVec 32)) (iblk m c 0 t)
    | ⟨1, _⟩ => iblk m c 1 t
    | ⟨2, _⟩ => win0_2.fill (grid0.coords t) (fun _ => (0 : EReal)) (iblk m c 2 t)
    | ⟨3, _⟩ => iblk m c 3 t
    | ⟨4, _⟩ => win0_4.fill (grid0.coords t) (fun _ => (0 : EReal)) ((win0_4.blk t).view.read (Elt Ideal) (outArr m c))
  Φ _ := Pipeline.ΦA spec0 c
  q _ := fullShare
  owed _ := 0

/-- The atomic numbers, whose last block is clipped, are fetched at every point: their buffer holds the block inside the
array and anything past it. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl
/-- The same for the features. -/
theorem before_2 (c : Dev nD) (t : Fin cfg0.N) (d) :
    (dats m 0 c).before (2 : Fin 5) t d = win0_2.fill (grid0.coords t) d (iblk m c 2 t) := by
  unfold Dat.before; rw [if_pos (fetch0_2 t)]; rfl

/-- One grid step over the reals: the inputs come back, and the output block holds its closed form. -/
theorem body_block (c : Dev nD) (E : Set ℕ) (i : grid0.Coords)
    (z : Memref sig .tc .vmem S36864 .i32) (hz : z.IsWhole) (g : Memref sig .tc .vmem S1x120 .i32) (hg : g.IsWhole)
    (p : Memref sig .tc .vmem S64x36864 .f32) (hp : p.IsWhole) (t : Memref sig .tc .vmem S32x19 .f32) (ht : t.IsWhole)
    (o : Memref sig .tc .vmem S96x36864 .f32) (ho : o.IsWhole)
    (Z : S36864.Idx → Elt Ideal .i32) (G : S1x120.Idx → Elt Ideal .i32) (X : S64x36864.Idx → Elt Ideal .f32)
    (T : S32x19.Idx → Elt Ideal .f32) (Y : S96x36864.Idx → Elt Ideal .f32) (K : PUnit → sProp 𝕄) :
    iprop((owns (c : Thread nD τ) z fullShare Z ∗ owns (c : Thread nD τ) g fullShare G ∗ owns (c : Thread nD τ) p fullShare X
            ∗ owns (c : Thread nD τ) t fullShare T ∗ owns (c : Thread nD τ) o fullShare Y)
          ∗ (iprop(owns (c : Thread nD τ) z fullShare Z ∗ owns (c : Thread nD τ) g fullShare G ∗ owns (c : Thread nD τ) p fullShare X
            ∗ owns (c : Thread nD τ) t fullShare T
            ∗ (∃ W : S96x36864.Idx → Elt Ideal .f32, ⌜∀ i n, W (ix2 i n) = blockAt Z G X T i n⌝
                ∗ owns (c : Thread nD τ) o fullShare W)) -∗ K ⟨⟩))
      ⊢ wp frame (wpE (defs₀ (F := Ideal)) 𝒱₀ c none) E (cc0__body i z hz g hg p hp t ht o ho) K := by
  iintro ⟨H, Hk⟩
  iapply (body_run c E i z hz g hg p hp t ht o ho Z G X T Y K)
  isplitl [H]; · iexact H
  iintro ⟨H0, H1, H2, H3, ⟨%f, H4⟩⟩
  iapply Hk
  isplitl [H0]; · iexact H0
  isplitl [H1]; · iexact H1
  isplitl [H2]; · iexact H2
  isplitl [H3]; · iexact H3
  iexists _; isplitr; swap; · iexact H4
  ipureintro; exact fun i n => read_stores Z G X T o.view f i n

/-- The library's body obligation: at every point the body takes the five buffers as the fetches left them and gives them
back at the proof data's contents, on the columns inside the arrays. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before0_1_of m (dats m 0 c) rfl (fun _ => rfl) t d1, before_2 m c t d2,
    before0_3_of m (dats m 0 c) rfl (fun _ => rfl) t d3]
  iapply (body_block c Set.univ (grid0.coords t) (st0_0 t) (hstage0_0 _) (st0_1 t) (hstage0_1 _)
    (st0_2 t) (hstage0_2 _) (st0_3 t) (hstage0_3 _) (st0_4 t) (hstage0_4 _)
    (win0_0.fill (grid0.coords t) d0 (iblk m c 0 t)) (iblk m c 1 t) (win0_2.fill (grid0.coords t) d2 (iblk m c 2 t))
    (iblk m c 3 t) _ _)
  isplitl [H0 H1 H2 H3 H4]
  · isplitl [H0]; · iexact H0
    isplitl [H1]; · iexact H1
    isplitl [H2]; · iexact H2
    isplitl [H3]; · iexact H3
    iexact H4
  iintro ⟨H0, H1, H2, H3, ⟨%W, %hW, H4⟩⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t)
      (win0_0.fill (grid0.coords t) (fun _ => (0#32 : BitVec 32)) (iblk m c 0 t))))
    rw [win0_0.cut_fill]
  isplitl [H1]; · iexact H1
  isplitl [H2]
  · iexists d2
    change _ ⊢ owns (c : Thread nD τ) (st0_2 t) fullShare (win0_2.fill (grid0.coords t) d2 (win0_2.cut (grid0.coords t)
      (win0_2.fill (grid0.coords t) (fun _ => (0 : EReal)) (iblk m c 2 t))))
    rw [win0_2.cut_fill]
  isplitl [H3]; · iexact H3
  iexists W
  change _ ⊢ owns (c : Thread nD τ) (st0_4 t) fullShare (win0_4.fill (grid0.coords t) W (win0_4.cut (grid0.coords t)
      (win0_4.fill (grid0.coords t) (fun _ => (0 : EReal)) ((win0_4.blk t).view.read (Elt Ideal) (outArr m c)))))
  rw [win0_4.cut_fill, ← cut_block m c t d0 d2 W hW, win0_4.fill_cut]

set_option backward.isDefEq.respectTransparency.types false in
/-- The run: the arrays end at what the proof data compute, every other buffer at what the operations after the grid leave
there, and every counter at zero. -/
theorem run : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)
    (Q' := fun r => Pipeline.FramePost cfgs (dats m) 0 (Pipeline.afterTail₀ cfgs (dats m) 0 (V0 m) [hostOps1]) r
      ∧ r.2.sem = fun _ => 0) (hQ' := fun _ h => h)

end Cert.Rows

end
-- ==== Proof.Result.lean ====
module

public import proofs.«01_k».proof.Proof.Run
public import Idealize.ShloMosaic.Lib.Pointwise
public import Idealize.ShloMosaic.Lib.Claim

/-!
# What the kernel returns

The grid's array is written whole, the program returns its transpose, and the arrays that the grid reads are a transpose or
a reshape of the arguments. So an entry of the result is known from the arguments.
-/

@[expose] public section

set_option maxRecDepth 16384

noncomputable section

namespace Cert.Rows

open Cert.KernelIdeal Cert.KernelIdeal.Gen
open Idealize.ShloMosaic Idealize.ShloMosaic.TcCoe Idealize.ShloMosaic.StableHlo
open Idealize.SL.Sem
open Idealize.ShloMosaic.Pipeline (Dat Window)

variable (m : (ℓ : Loc nD τ sig) → Buf (Elt Ideal) ℓ) (ρ : Dev nD → PrngReg)

/-- After all fourteen points the output array holds the result array. -/
theorem array_result (c : Dev nD) : (dats m 0 c).arrAt 4 cfg0.N = outArr m c :=
  (dats m 0 c).arrAt_eq_of_covers 4 (outArr m c) (by decide +kernel) fun t _ y => by
    show win0_4.fill (grid0.coords t) (fun _ => (0 : EReal)) ((win0_4.blk t).view.read (Elt Ideal) (outArr m c))
      (win0_4.xinj (grid0.coords t) y) = _
    rw [Window.fill_xinj]
    rfl

/-- The arguments as plain arrays: the features, -/
abbrev argX (c : Dev nD) : S500000x64.Idx → EReal := m ((c.tc : Thread nD τ).loc main_arg0)
/-- The atomic numbers, -/
abbrev argZ (c : Dev nD) : S500000.Idx → BitVec 32 := m ((c.tc : Thread nD τ).loc main_arg1)
/-- the table, -/
abbrev argT (c : Dev nD) : S19x32.Idx → EReal := m ((c.tc : Thread nD τ).loc main_arg2)
/-- and the map from atomic numbers to groups. -/
abbrev argG (c : Dev nD) : S120.Idx → BitVec 32 := m ((c.tc : Thread nD τ).loc main_arg3)

/-- The grid reads the features transposed, -/
theorem features_at (c : Dev nD) (r : Fin 64) (n : Fin 500000) : features m c (ix2 r n) = argX m c (ix2 n r) := by
  have e : features m c = transpose S64x500000 [1, 0] (argX m c) transposes_S500000x64_S64x500000_1_0 := by
    show StableHlo.after hostOps0 (fun b => m (c, b)) (Proc.devRef .tc main_v0) = _
    after_results
  rw [e]
  pointwise []

/-- the table transposed, -/
theorem tableT_at (c : Dev nD) (r : Fin 32) (k : Fin 19) : tableT m c (ix2 r k) = argT m c (ix2 k r) := by
  have e : tableT m c = transpose S32x19 [1, 0] (argT m c) transposes_S19x32_S32x19_1_0 := by
    show StableHlo.after hostOps0 (fun b => m (c, b)) (Proc.devRef .tc main_v1) = _
    after_results
  rw [e]
  pointwise []

/-- the map of groups as one row, -/
theorem groups_at (c : Dev nD) (a : Fin 120) : groups m c (ix2 0 a) = argG m c (ix1 a) := by
  have e : groups m c = shapeCast S1x120 (argG m c) shapeCasts_S120_S1x120 := by
    show StableHlo.after hostOps0 (fun b => m (c, b)) (Proc.devRef .tc main_v2) = _
    after_results; rfl
  rw [e]
  pointwise []

/-- and the atomic numbers as they are. -/
theorem numbers_at (c : Dev nD) (n : Fin 500000) : numbers m c (ix1 n) = argZ m c (ix1 n) := by
  unfold numbers; rw [V_main_arg1]

/-- An entry of what the program returns, from its arguments. -/
def entry (c : Dev nD) (n : Fin 500000) (j : Fin 96) : EReal :=
  if h : j.val < 64 then argX m c (ix2 n ⟨j.val, h⟩)
  else pick (fun a => argG m c (ix1 a)) (fun r k => argT m c (ix2 k r)) (argZ m c (ix1 n)) ⟨j.val - 64, by omega⟩

/-- The grid's array holds the transposed entries. -/
theorem outAt_eq (c : Dev nD) (j : Fin 96) (n : Fin 500000) : outAt m c j n = entry m c n j := by
  unfold outAt entry
  split
  · exact features_at m c _ n
  · simp only [groups_at, tableT_at, numbers_at]

/-- What the last operation leaves in the result: the transpose of the result array. -/
theorem returned (c : Dev nD) (n : Fin 500000) (j : Fin 96) :
    (Pipeline.afterTail₀ cfgs (dats m) 0 (V0 m) [hostOps1] c main_v4 : S500000x96.Idx → EReal) (ix2 n j) = entry m c n j := by
  have e : (Pipeline.afterTail₀ cfgs (dats m) 0 (V0 m) [hostOps1] c main_v4 : S500000x96.Idx → EReal)
      = transpose S500000x96 [1, 0] (outArr m c : S96x500000.Idx → EReal) transposes_S96x500000_S500000x96_1_0 := by
    have a : Pipeline.withArrays cfg0.spec c (V0 m c) (fun w => (dats m 0 c).arrAt w cfg0.N) (Proc.devRef .tc main_v3)
        = outArr m c :=
      (Pipeline.withArrays_arr cfg0.spec launch0.win.arr_inj c (V0 m c) (fun w => (dats m 0 c).arrAt w cfg0.N) 4).trans
        (array_result m c)
    rw [← a]
    unfold Pipeline.afterTail₀
    generalize Pipeline.withArrays cfg0.spec c (V0 m c) (fun w => (dats m 0 c).arrAt w cfg0.N) = W
    show StableHlo.after hostOps1 W (Proc.devRef .tc main_v4) = _
    after_results
  rw [e, ← outAt_eq]
  pointwise []
  rfl

end Cert.Rows

end
-- ==== Proof.RefValue.lean ====
module

public import proofs.«01_k».proof.Proof.Gen.ReferenceIdeal.Run
public import proofs.«01_k».proof.Proof.Gen.ReferenceIdeal.Read
public import Idealize.ShloMosaic.Lib.Pointwise
public import Idealize.ShloMosaic.Lib.ReduceAll
public import Idealize.ShloMosaic.Lib.Routing.OpsSet
public import Idealize.ShloMosaic.Lib.Quiescent

/-!
# What the reference computes

Two lookups, one after the other, and the joined rows. A lookup clamps nothing that lies in range: there the index is kept
by the wrap-around of negative indices, passes the bounds test, and the gather reads the entry that it names.
-/

@[expose] public section

set_option maxRecDepth 16384

noncomputable section

namespace Cert.RowsRef

open Cert.ReferenceIdeal Cert.ReferenceIdeal.Read
open Idealize.ShloMosaic Idealize.ShloMosaic.TcCoe
open Idealize.SL.Sem

/-- A small number, as a signed word, is not negative and at most any number that bounds it. -/
theorem in_range (a b : ℕ) (h : a ≤ b) (hb : b < 2 ^ 31) :
    IntOp.cmpi .slt (BitVec.ofNat 32 a) 0#32 = 0#1 ∧ IntOp.cmpi .sge (BitVec.ofNat 32 a) 0#32 = 1#1
      ∧ IntOp.cmpi .sle (BitVec.ofNat 32 a) (BitVec.ofNat 32 b) = 1#1 := by
  have ea : (BitVec.ofNat 32 a).toInt = a := StableHlo.Predicate.toInt_ofNat_small _ (by omega)
  have eb : (BitVec.ofNat 32 b).toInt = b := StableHlo.Predicate.toInt_ofNat_small _ hb
  have e0 : (0#32 : BitVec 32).toInt = 0 := rfl
  refine ⟨?_, ?_, ?_⟩
  · show BitVec.ofBool (decide ((BitVec.ofNat 32 a).toInt < (0#32 : BitVec 32).toInt)) = 0#1
    rw [ea, e0, decide_eq_false (by omega)]; rfl
  · show BitVec.ofBool (decide ((0#32 : BitVec 32).toInt ≤ (BitVec.ofNat 32 a).toInt)) = 1#1
    rw [ea, e0, decide_eq_true (by omega)]; rfl
  · show BitVec.ofBool (decide ((BitVec.ofNat 32 a).toInt ≤ (BitVec.ofNat 32 b).toInt)) = 1#1
    rw [ea, eb, decide_eq_true (by omega)]; rfl

/-- An index of a column is its row. -/
theorem column (i : S500000x1.Idx) : ∃ n : Fin 500000, i = (ix2 n 0 : S500000x1.Idx) :=
  ⟨i 0, by
    funext b; fin_cases b
    · rfl
    · exact Fin.ext (by have := (i 1).isLt; change (i 1).val < 1 at this; change (i 1).val = 0; omega)⟩

section Lookups

variable (x0 : S500000x64.Idx → EReal) (x1 : S500000.Idx → BitVec 32) (x2 : S19x32.Idx → EReal) (x3 : S120.Idx → BitVec 32)

/-- Every atomic number is one of the 120 that the map of groups covers. -/
def NumbersIn : Prop := ∀ n : Fin 500000, ∃ a : Fin 120, x1 (ix1 n) = BitVec.ofNat 32 a.val
/-- Every group is one of the table's 19 rows. -/
def GroupsIn : Prop := ∀ a : Fin 120, ∃ k : Fin 19, x3 (ix1 a) = BitVec.ofNat 32 k.val

/-- The first lookup's index, after the wrap-around of negative ones, is the atomic number. -/
theorem index_first (h : NumbersIn x1) (n : Fin 500000) : val_main_call0_v5 (F := Ideal) x1 (ix2 n 0) = x1 (ix1 n) := by
  obtain ⟨a, ha⟩ := h n
  have e : idx_main_call0_v5 (ix2 n 0) = ix1 n := by funext i; fin_cases i; rfl
  rw [val_main_call0_v5_apply, e, val_main_call0_v4_apply, val_main_call0_v1_apply, val_main_call0_v0_apply,
    val_main_call0_c_apply, ha, (in_range a.val 119 (by omega) (by norm_num)).1]
  rfl

/-- Every index of the first lookup passes the bounds test. -/
theorem mask_first (h : NumbersIn x1) (j : S500000.Idx) : val_main_call0_v12 (F := Ideal) x1 j = 1#1 := by
  refine Host.reduce_andi_one _ _ _ _ _ rfl fun i => ?_
  obtain ⟨n, rfl⟩ := column i
  obtain ⟨a, ha⟩ := h n
  have hr := in_range a.val 119 (by omega) (by norm_num)
  rw [val_main_call0_v11_apply, val_main_call0_v7_apply, val_main_call0_v10_apply, val_main_call0_v6_apply,
    val_main_call0_v9_apply, val_main_call0_v8_apply, val_main_call0_c_1_apply, val_main_call0_c_2_apply,
    index_first x1 h, ha, hr.2.1, hr.2.2]
  rfl

/-- The first lookup: the group of an atom's number. -/
theorem lookup_first (h : NumbersIn x1) (n : Fin 500000) (a : Fin 120) (ha : x1 (ix1 n) = BitVec.ofNat 32 a.val) :
    val_main_v0 (F := Ideal) x1 x3 (ix1 n) = x3 (ix1 a) := by
  rw [val_main_v0_apply, mask_first x1 h]
  show val_main_call0_v13 (F := Ideal) x1 x3 (ix1 n) = _
  unfold val_main_call0_v13
  exact Routing.gather_take1 _ rfl rfl rfl rfl x3 _ n a ((index_first x1 h n).trans ha) (by norm_num)

/-- The second lookup's index, after the wrap-around, is the group. -/
theorem index_second (h : NumbersIn x1) (h' : GroupsIn x3) (n : Fin 500000) (a : Fin 120)
    (ha : x1 (ix1 n) = BitVec.ofNat 32 a.val) : val_main_call1_v5 (F := Ideal) x1 x3 (ix2 n 0) = x3 (ix1 a) := by
  obtain ⟨k, hk⟩ := h' a
  have e : idx_main_call1_v5 (ix2 n 0) = ix1 n := by funext i; fin_cases i; rfl
  rw [val_main_call1_v5_apply, e, val_main_call1_v4_apply, val_main_call1_v1_apply, val_main_call1_v0_apply,
    val_main_call1_c_apply, lookup_first x1 x3 h n a ha, hk, (in_range k.val 18 (by omega) (by norm_num)).1]
  rfl

/-- Every index of the second lookup passes the bounds test. -/
theorem mask_second (h : NumbersIn x1) (h' : GroupsIn x3) (j : S500000.Idx) :
    val_main_call1_v12 (F := Ideal) x1 x3 j = 1#1 := by
  refine Host.reduce_andi_one _ _ _ _ _ rfl fun i => ?_
  obtain ⟨n, rfl⟩ := column i
  obtain ⟨a, ha⟩ := h n
  obtain ⟨k, hk⟩ := h' a
  have hr := in_range k.val 18 (by omega) (by norm_num)
  rw [val_main_call1_v11_apply, val_main_call1_v7_apply, val_main_call1_v10_apply, val_main_call1_v6_apply,
    val_main_call1_v9_apply, val_main_call1_v8_apply, val_main_call1_c_1_apply, val_main_call1_c_2_apply,
    index_second x1 x3 h h' n a ha, hk, hr.2.1, hr.2.2]
  rfl

/-- The second lookup: the table's row of that group. -/
theorem lookup_second (h : NumbersIn x1) (h' : GroupsIn x3) (n : Fin 500000) (r : Fin 32) (a : Fin 120) (k : Fin 19)
    (ha : x1 (ix1 n) = BitVec.ofNat 32 a.val) (hk : x3 (ix1 a) = BitVec.ofNat 32 k.val) :
    val_main_v1 (F := Ideal) x1 x2 x3 (ix2 n r) = x2 (ix2 k r) := by
  rw [val_main_v1_apply, val_main_call1_v14_apply, mask_second x1 x3 h h']
  show val_main_call1_v13 (F := Ideal) x1 x2 x3 (ix2 n r) = _
  unfold val_main_call1_v13
  exact Routing.gather_row _ rfl rfl rfl rfl rfl x2 _ n r k ((index_second x1 x3 h h' n a ha).trans hk) (by norm_num)

/-- A row of the result starts with the atom's features, -/
theorem row_left (n : Fin 500000) (j : Fin 96) (h : j.val < 64) :
    val_main_v2 (F := Ideal) x0 x1 x2 x3 (ix2 n j) = x0 (ix2 n ⟨j.val, h⟩) := by
  unfold val_main_v2
  generalize val_main_v1 (F := Ideal) x1 x2 x3 = y
  pointwise []
  rw [dif_pos h]

/-- and ends with what the second lookup found. -/
theorem row_right (n : Fin 500000) (j : Fin 96) (h : ¬ j.val < 64) :
    val_main_v2 (F := Ideal) x0 x1 x2 x3 (ix2 n j) = val_main_v1 (F := Ideal) x1 x2 x3 (ix2 n ⟨j.val - 64, by omega⟩) := by
  unfold val_main_v2
  generalize val_main_v1 (F := Ideal) x1 x2 x3 = y
  pointwise []
  rw [dif_neg h]

end Lookups

/-- The reference has no counters, so its run ends with all of them at zero. -/
theorem run_counters (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems rfl r.2⟩) (Cert.ReferenceIdeal.Value.run m ρ)

end Cert.RowsRef

end
-- ==== Proof.Range.lean ====
module

public import proofs.«01_k».proof.Proof.Gen.Pre_indices_in_range
public import proofs.«01_k».proof.Proof.RefValue

/-!
# What the precondition says

The precondition tests every atomic number against 0 and 120 and every group against 0 and 19, and joins the answers.
Where it holds, each atomic number is one of 0, …, 119 and each group one of 0, …, 18.
-/

@[expose] public section

noncomputable section

namespace Cert.RowsRange

open Idealize.ShloMosaic
open Cert.RowsRef

/-- A word that as a signed number is at least 0 and less than `b` is one of the first `b` numbers. -/
theorem small_of_tests (w : BitVec 32) (b : ℕ) (hb : b < 2 ^ 31)
    (h : IntOp.andi (IntOp.cmpi .sge w 0#32) (IntOp.cmpi .slt w (BitVec.ofNat 32 b)) = 1#1) :
    ∃ a : Fin b, w = BitVec.ofNat 32 a.val := by
  have eb : (BitVec.ofNat 32 b).toInt = b := StableHlo.Predicate.toInt_ofNat_small _ hb
  have e0 : (0#32 : BitVec 32).toInt = 0 := rfl
  have h' : BitVec.ofBool (decide ((0#32 : BitVec 32).toInt ≤ w.toInt))
      &&& BitVec.ofBool (decide (w.toInt < (BitVec.ofNat 32 b).toInt)) = 1#1 := h
  rw [eb, e0] at h'
  by_cases h1 : (0 : ℤ) ≤ w.toInt
  · by_cases h2 : w.toInt < (b : ℤ)
    · have hw : w.toInt = w.toNat := by
        rw [BitVec.toInt_eq_toNat_cond] at h1 ⊢
        split
        · rfl
        · rename_i h3; rw [if_neg h3] at h1; have := w.isLt; omega
      exact ⟨⟨w.toNat, by omega⟩, by simp⟩
    · rw [decide_eq_false h2] at h'
      exact absurd h' (by cases decide ((0 : ℤ) ≤ w.toInt) <;> decide)
  · rw [decide_eq_false h1] at h'
    exact absurd h' (by cases decide (w.toInt < (b : ℤ)) <;> decide)

/-- A conjunction of two one-bit words that is 1 has both at 1. -/
theorem both_of_and (a b : BitVec 1) (h : IntOp.andi a b = 1#1) : a = 1#1 ∧ b = 1#1 := by
  revert a b; decide

variable (x0 : Cert.Pre_indices_in_range.S500000x64.Idx → EReal) (x1 : Cert.Pre_indices_in_range.S500000.Idx → BitVec 32)
  (x2 : Cert.Pre_indices_in_range.S19x32.Idx → EReal) (x3 : Cert.Pre_indices_in_range.S120.Idx → BitVec 32)

/-- A scalar has one index. -/
instance : Subsingleton Cert.Pre_indices_in_range.S_.Idx := ⟨fun i j => funext fun a => a.elim0⟩

/-- The precondition gives both ranges. -/
theorem ranges [Cert.Pre_indices_in_range.Facts]
    (h : Cert.Pre_indices_in_range.fn (F := Ideal) x0 x1 x2 x3 = fun _ => 1#1) : NumbersIn x1 ∧ GroupsIn x3 := by
  unfold Cert.Pre_indices_in_range.fn at h
  obtain ⟨hz, hg⟩ := both_of_and _ _ (congrFun h fun a => a.elim0)
  constructor
  · intro n
    refine small_of_tests _ 120 (by norm_num) ?_
    have := Host.reduce_andi_all _ _ _ _ _ hz (ix1 n)
    exact this
  · intro a
    refine small_of_tests _ 19 (by norm_num) ?_
    have := Host.reduce_andi_all _ _ _ _ _ hg (ix1 a)
    exact this

end Cert.RowsRange

end
-- ==== Proof.Equation.lean ====
module

public import proofs.«01_k».proof.Proof.Result
public import proofs.«01_k».proof.Proof.Range

/-!
# The two results are equal

The kernel looks a group up by multiplying the table with indicator columns: a sum over all groups of which one term is not
zero, and the same again over all atomic numbers. With every index in range each sum is its one term, which is the table's
entry that the reference's two lookups read. This holds over the extended reals with any table: zero times anything is zero
there.
-/

@[expose] public section

noncomputable section

namespace Cert.Rows

open Cert.KernelIdeal Cert.KernelIdeal.Gen
open Idealize.ShloMosaic Idealize.ShloMosaic.TcCoe
open Idealize.SL.Sem
open Cert.RowsRef (NumbersIn GroupsIn)

/-- The indicator of a small number at the same number is 1, -/
theorem ind_self (a : ℕ) : ind (BitVec.ofNat 32 a) a = 1 := by
  have e : IntOp.cmpi .eq (BitVec.ofNat 32 a) (BitVec.ofNat 32 a) = 1#1 := by
    show BitVec.ofBool _ = _
    simp
  unfold ind
  rw [e]
  show (((BitVec.setWidth 32 (1#1)).toInt : ℝ) : EReal) = 1
  norm_num

/-- and at any other small number 0. -/
theorem ind_ne (a b : ℕ) (ha : a < 2 ^ 32) (hb : b < 2 ^ 32) (h : b ≠ a) : ind (BitVec.ofNat 32 a) b = 0 := by
  have hne : BitVec.ofNat 32 a ≠ BitVec.ofNat 32 b := fun e => h (by
    have := congrArg BitVec.toNat e
    rw [BitVec.toNat_ofNat, BitVec.toNat_ofNat, Nat.mod_eq_of_lt ha, Nat.mod_eq_of_lt hb] at this
    exact this.symm)
  have e : IntOp.cmpi .eq (BitVec.ofNat 32 a) (BitVec.ofNat 32 b) = 0#1 := by
    show BitVec.ofBool (BitVec.ofNat 32 a == BitVec.ofNat 32 b) = _
    rw [beq_eq_false_iff_ne.mpr hne]; rfl
  unfold ind
  rw [e]
  show (((BitVec.setWidth 32 (0#1)).toInt : ℝ) : EReal) = 0
  norm_num

/-- A sum against the indicator of one of its numbers is the term of that number. -/
theorem sum_ind {N : ℕ} (hN : N < 2 ^ 32) (f : Fin N → EReal) (w : BitVec 32) (a : Fin N) (hw : w = BitVec.ofNat 32 a.val) :
    ∑ b : Fin N, f b * ind w b.val = f a := by
  subst hw
  rw [Finset.sum_eq_single a]
  · rw [ind_self, mul_one]
  · intro b _ hb
    rw [ind_ne a.val b.val (by omega) (by omega) fun e => hb (Fin.ext e), mul_zero]
  · exact fun h => absurd (Finset.mem_univ a) h

/-- The kernel's selection, with the indices in range, is the entry of the table. -/
theorem pick_eq (G : Fin 120 → BitVec 32) (T : Fin 32 → Fin 19 → EReal) (w : BitVec 32) (r : Fin 32) (a : Fin 120) (k : Fin 19)
    (hw : w = BitVec.ofNat 32 a.val) (hG : G a = BitVec.ofNat 32 k.val) : pick G T w r = T r k := by
  unfold pick
  rw [sum_ind (by norm_num) (fun a => ∑ k : Fin 19, T r k * ind (G a) k) w a hw]
  exact sum_ind (by norm_num) (T r) (G a) k hG

variable (m : (ℓ : Loc nD τ sig) → Buf (Elt Ideal) ℓ)

/-- Entry by entry, the kernel's result is the reference's at the same arguments. -/
theorem entry_eq (c : Dev nD) (hz : NumbersIn (argZ m c)) (hg : GroupsIn (argG m c)) (n : Fin 500000) (j : Fin 96) :
    entry m c n j = Cert.ReferenceIdeal.Read.val_main_v2 (F := Ideal) (argX m c) (argZ m c) (argT m c) (argG m c) (ix2 n j) := by
  unfold entry
  by_cases h : j.val < 64
  · rw [dif_pos h, Cert.RowsRef.row_left _ _ _ _ n j h]
  · obtain ⟨a, ha⟩ := hz n
    obtain ⟨k, hk⟩ := hg a
    rw [dif_neg h, Cert.RowsRef.row_right _ _ _ _ n j h, Cert.RowsRef.lookup_second _ _ _ hz hg n _ a k ha hk,
      pick_eq _ _ _ _ a k ha hk]

/-- The whole result. -/
theorem result_eq (c : Dev nD) (hz : NumbersIn (argZ m c)) (hg : GroupsIn (argG m c)) :
    Pipeline.afterTail₀ cfgs (dats m) 0 (V0 m) [hostOps1] c main_v4
      = Cert.ReferenceIdeal.Read.val_main_v2 (F := Ideal) (argX m c) (argZ m c) (argT m c) (argG m c) := by
  funext i
  have hi : i = (ix2 (i 0) (i 1) : S500000x96.Idx) := by funext a; fin_cases a <;> rfl
  rw [hi]
  exact (returned m c (i 0) (i 1)).trans (entry_eq m c hz hg (i 0) (i 1))

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_indices_in_range
public import proofs.«01_k».proof.Proof.FrameBits
public import proofs.«01_k».proof.Proof.Equation

/-!
# The claims

The frames of the kernel on words (`FrameBits`), of the kernel over the reals (`Run`) and of the reference (`RefValue`); and
the value claim: the kernel over the reals returns what the reference returns (`Equation`).
-/

@[expose] public section

noncomputable section

namespace Cert.Proof

open Idealize.ShloMosaic Idealize.SL.Sem

/-- The kernel over the reals ends with its arguments as they were, its result the transpose of the grid's array, and every
counter at zero. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_v4)
          = Pipeline.afterTail₀ Cert.KernelIdeal.cfgs (Cert.Rows.dats m) 0 (Cert.KernelIdeal.Gen.V0 m)
              [Cert.KernelIdeal.Gen.hostOps1] c Cert.KernelIdeal.main_v4
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun r h => ⟨fun c =>
    ⟨(h.1 c).2 Cert.KernelIdeal.main_v4 (Pipeline.mem_restRefs_of Cert.KernelIdeal.main_v4 (by decide) (by decide)),
      ((h.1 c).2 Cert.KernelIdeal.main_arg0 (Pipeline.mem_restRefs_of Cert.KernelIdeal.main_arg0 (by decide) (by decide))).trans
        (Cert.KernelIdeal.Gen.W_main_arg0 m (Cert.Rows.dats m) c),
      ((h.1 c).1 0).trans (((Cert.Rows.dats m 0 c).arrAt_in 0 rfl _).trans (Cert.KernelIdeal.Gen.V_main_arg1 m c)),
      ((h.1 c).2 Cert.KernelIdeal.main_arg2 (Pipeline.mem_restRefs_of Cert.KernelIdeal.main_arg2 (by decide) (by decide))).trans
        (Cert.KernelIdeal.Gen.W_main_arg2 m (Cert.Rows.dats m) c),
      ((h.1 c).2 Cert.KernelIdeal.main_arg3 (Pipeline.mem_restRefs_of Cert.KernelIdeal.main_arg3 (by decide) (by decide))).trans
        (Cert.KernelIdeal.Gen.W_main_arg3 m (Cert.Rows.dats m) c)⟩, h.2⟩) (Cert.Rows.run m g)

/-- The kernel on words ends with its arguments as they were and every counter at zero; -/
theorem frame_kernel : Cert.quiescent_Kernel := fun m g _ => Cert.RowsBits.frame_run (F := Bits) m g

/-- so does the kernel over the reals, -/
theorem frame_kernel_ideal : Cert.quiescent_KernelIdeal := fun m g _ =>
  (θ_run Cert.KernelIdeal.defs _ _).mono (fun _ h => ⟨fun c => (h.1 c).2, h.2⟩) (kernel_run m g)

/-- in particular where the indices are in range, -/
theorem frame_kernel_ideal_pre : Cert.quiescent_KernelIdeal_pre_indices_in_range := fun m g _ => frame_kernel_ideal m g trivial

/-- and so does the reference, -/
theorem frame_reference : Cert.quiescent_ReferenceIdeal := fun m g _ => Cert.RowsRef.run_counters m g

/-- in particular where the indices are in range. -/
theorem frame_reference_pre : Cert.quiescent_ReferenceIdeal_pre_indices_in_range := fun m g _ => Cert.RowsRef.run_counters m g

/-- The value claim: on arguments whose indices are in range, both programs return the same array. -/
theorem value : Cert.algebraic_KernelIdeal_ReferenceIdeal_pre_indices_in_range := by
  intro m g m' g' hpre hargs
  refine ⟨fun c => Pipeline.afterTail₀ Cert.KernelIdeal.cfgs (Cert.Rows.dats m) 0 (Cert.KernelIdeal.Gen.V0 m)
    [Cert.KernelIdeal.Gen.hostOps1] c Cert.KernelIdeal.main_v4, ?_, ?_⟩
  · exact (θ_run Cert.KernelIdeal.defs _ _).mono (fun _ h => h.1) (kernel_run m g)
  · refine (θ_run Cert.ReferenceIdeal.defs _ _).mono (fun r h c => ⟨(h c).1.trans ?_, (h c).2⟩)
      (Cert.ReferenceIdeal.Value.run m' g')
    obtain ⟨hz, hg⟩ := Cert.RowsRange.ranges _ _ _ _ (hpre c)
    obtain ⟨e0, e1, e2, e3⟩ := hargs c
    refine (Cert.ReferenceIdeal.Read.val_main_v2_eq m' c).trans ?_
    rw [e0, e1, e2, e3]
    exact (Cert.Rows.result_eq m c hz hg).symm

/-- Everything claimed. -/
theorem claim : Cert.Claim :=
  ⟨Cert.Kernel.Gen.facts, Cert.KernelIdeal.Gen.facts, Cert.ReferenceIdeal.Gen.facts, Cert.Pre_indices_in_range.Gen.facts,
    frame_kernel, frame_kernel_ideal, frame_kernel_ideal_pre, frame_reference, frame_reference_pre, trivial, value⟩

end Cert.Proof

end
